-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawable [hPre_drawable : Cert.Pre_drawable.Facts] (m : (ℓ : Loc Cert.KernelIdeal.nD Cert.KernelIdeal.τ Cert.KernelIdeal.sig) → Buf (Elt Ideal) ℓ) : Prop :=
  ∀ c : Dev Cert.KernelIdeal.nD,
    (Cert.Pre_drawable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawable [hPre_drawable : Cert.Pre_drawable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_drawable [hKernelIdeal : Cert.KernelIdeal.Facts] [hPre_drawable : Cert.Pre_drawable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_drawable [hReferenceIdeal : Cert.ReferenceIdeal.Facts] [hPre_drawable : Cert.Pre_drawable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_drawable [hKernelIdeal : Cert.KernelIdeal.Facts] [hReferenceIdeal : Cert.ReferenceIdeal.Facts] [hPre_drawable : Cert.Pre_drawable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_drawable : Cert.Pre_drawable.Facts),
    quiescent_Kernel (hKernel := hKernel)
    ∧ quiescent_KernelIdeal (hKernelIdeal := hKernelIdeal)
    ∧ quiescent_KernelIdeal_pre_drawable (hKernelIdeal := hKernelIdeal) (hPre_drawable := hPre_drawable)
    ∧ quiescent_ReferenceIdeal (hReferenceIdeal := hReferenceIdeal)
    ∧ quiescent_ReferenceIdeal_pre_drawable (hReferenceIdeal := hReferenceIdeal) (hPre_drawable := hPre_drawable)
    ∧ preserves_Kernel_KernelIdeal
    ∧ algebraic_KernelIdeal_ReferenceIdeal_pre_drawable (hKernelIdeal := hKernelIdeal) (hReferenceIdeal := hReferenceIdeal) (hPre_drawable := hPre_drawable)
-- ==== Pre_drawable.lean ====
abbrev S64x4096 : Shape := ⟨2, ![64, 4096]⟩
abbrev S64x10x4096 : Shape := ⟨3, ![64, 10, 4096]⟩
abbrev S_ : Shape := ⟨0, ![]⟩
abbrev S64x1x4096 : Shape := ⟨3, ![64, 1, 4096]⟩
abbrev S64 : Shape := ⟨1, ![64]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S64x10x4096 : S_.BroadcastsInDim S64x10x4096 (![] : Fin 0 → Fin S64x10x4096.rank)
  reducesTo_S64x10x4096_S_d0_1_2 : S64x10x4096.ReducesTo [0, 1, 2] S_
  bcast_S64x4096_S64x1x4096_0_2 : S64x4096.BroadcastsInDim S64x1x4096 (![0, 2] : Fin 2 → Fin S64x1x4096.rank)
  bcast_S_S64x1x4096 : S_.BroadcastsInDim S64x1x4096 (![] : Fin 0 → Fin S64x1x4096.rank)
  bcast_S64x1x4096_S64x10x4096_0_1_2 : S64x1x4096.BroadcastsInDim S64x10x4096 (![0, 1, 2] : Fin 3 → Fin S64x10x4096.rank)
  reducesTo_S64x10x4096_S64_d1_2 : S64x10x4096.ReducesTo [1, 2] S64
  reducesTo_S64_S_d0 : S64.ReducesTo [0] S_

variable [Facts]

def fn_part1 {F : FTy → Type} [FloatOps F] (main_v6 : IVec S_ 1) (main_v15 : IVec S_ 1) : IVec S_ 1 :=
  let main_v16 : IVec S_ 1 := andi main_v6 main_v15
  main_v16

def fn {F : FTy → Type} [FloatOps F] (main_arg0 : FVec F S64x4096 .f32) (main_arg1 : FVec F S64x10x4096 .f32) : IVec S_ 1 :=
  let main_cst : FVec F S_ .f32 := constant S_ .f32 0x7F800000#32
  let main_v0 : FVec F S64x4096 .f32 := broadcastInDim S64x4096 ![] bcast_S_S64x4096 main_cst
  let main_v1 : IVec S64x4096 1 := cmpf .olt main_arg0 main_v0
  let main_c : IVec S_ 1 := constantI S_ 1 1#1
  let main_v2 : IVec S_ 1 := (fun x v => Host.reduce IntOp.andi x v reducesTo_S64x4096_S_d0_1 h_S_) main_v1 main_c
  let main_cst_0 : FVec F S_ .f32 := constant S_ .f32 0x3F800000#32
  let main_v3 : FVec F S64x10x4096 .f32 := broadcastInDim S64x10x4096 ![] bcast_S_S64x10x4096 main_cst_0
  let main_v4 : IVec S64x10x4096 1 := cmpf .olt main_arg1 main_v3
  let main_c_1 : IVec S_ 1 := constantI S_ 1 1#1
  let main_v5 : IVec S_ 1 := (fun x v => Host.reduce IntOp.andi x v reducesTo_S64x10x4096_S_d0_1_2 h_S_) main_v4 main_c_1
  let main_v6 : IVec S_ 1 := andi main_v2 main_v5
  let main_v7 : FVec F S64x1x4096 .f32 := broadcastInDim S64x1x4096 ![0, 2] bcast_S64x4096_S64x1x4096_0_2 main_arg0
  let main_cst_2 : FVec F S_ .f32 := constant S_ .f32 0xFF800000#32
  let main_v8 : FVec F S64x1x4096 .f32 := broadcastInDim S64x1x4096 ![] bcast_S_S64x1x4096 main_cst_2
  let main_v9 : IVec S64x1x4096 1 := cmpf .ogt main_v7 main_v8
  let main_cst_3 : FVec F S_ .f32 := constant S_ .f32 0x00000000#32
  let main_v10 : FVec F S64x10x4096 .f32 := broadcastInDim S64x10x4096 ![] bcast_S_S64x10x4096 main_cst_3
  let main_v11 : IVec S64x10x4096 1 := cmpf .ogt main_arg1 main_v10
  let main_v12 : IVec S64x10x4096 1 := broadcastInDim S64x10x4096 ![0, 1, 2] bcast_S64x1x4096_S64x10x4096_0_1_2 main_v9
  let main_v13 : IVec S64x10x4096 1 := andi main_v12 main_v11
  let main_c_4 : IVec S_ 1 := constantI S_ 1 0#1
  let main_v14 : IVec S64 1 := (fun x v => Host.reduce IntOp.ori x v reducesTo_S64x10x4096_S64_d1_2 h_S_) main_v13 main_c_4
  let main_c_5 : IVec S_ 1 := constantI S_ 1 1#1
  let main_v15 : IVec S_ 1 := (fun x v => Host.reduce IntOp.andi x v reducesTo_S64_S_d0 h_S_) main_v14 main_c_5
  fn_part1 (F := F) main_v6 main_v15
-- ==== Kernel.lean ====
abbrev S64x4096 : Shape := ⟨2, ![64, 4096]⟩
abbrev S64x10x4096 : Shape := ⟨3, ![64, 10, 4096]⟩
abbrev S16x10x4096 : Shape := ⟨3, ![16, 10, 4096]⟩
abbrev S16x40960 : Shape := ⟨2, ![16, 40960]⟩
abbrev S16x4096 : Shape := ⟨2, ![16, 4096]⟩
abbrev S8x4096 : Shape := ⟨2, ![8, 4096]⟩
abbrev S8x40960 : Shape := ⟨2, ![8, 40960]⟩
abbrev S8 : Shape := ⟨1, ![8]⟩
abbrev S8x1 : Shape := ⟨2, ![8, 1]⟩

abbrev nBuf : Space → Nat
  | .hbm => 15
  | .vmem => 24
  | .smem => 0
  | _ => 0

abbrev bufTy : (tb : Table) → Fin (tcTables nBuf tb) → BufTy
  | .hbm, ⟨0, _⟩ => ⟨S64x4096, .f32⟩
  | .hbm, ⟨1, _⟩ => ⟨S64x10x4096, .f32⟩
  | .hbm, ⟨2, _⟩ => ⟨S16x10x4096, .f32⟩
  | .hbm, ⟨3, _⟩ => ⟨S16x40960, .f32⟩
  | .hbm, ⟨4, _⟩ => ⟨S16x4096, .f32⟩
  | .hbm, ⟨5, _⟩ => ⟨S16x10x4096, .f32⟩
  | .hbm, ⟨6, _⟩ => ⟨S16x40960, .f32⟩
  | .hbm, ⟨7, _⟩ => ⟨S16x4096, .f32⟩
  | .hbm, ⟨8, _⟩ => ⟨S16x10x4096, .f32⟩
  | .hbm, ⟨9, _⟩ => ⟨S16x40960, .f32⟩
  | .hbm, ⟨10, _⟩ => ⟨S16x4096, .f32⟩
  | .hbm, ⟨11, _⟩ => ⟨S16x10x4096, .f32⟩
  | .hbm, ⟨12, _⟩ => ⟨S16x40960, .f32⟩
  | .hbm, ⟨13, _⟩ => ⟨S16x4096, .f32⟩
  | .hbm, ⟨14, _⟩ => ⟨S64x4096, .f32⟩
  | .local _ .vmem, ⟨0, _⟩ => ⟨S8x4096, .f32⟩
  | .local _ .vmem, ⟨1, _⟩ => ⟨S8x4096, .f32⟩
  | .local _ .vmem, ⟨2, _⟩ => ⟨S8x40960, .f32⟩
  | .local _ .vmem, ⟨3, _⟩ => ⟨S8x40960, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S8x40960, .f32⟩
  | .local _ .vmem, ⟨9, _⟩ => ⟨S8x40960, .f32⟩
  | .local _ .vmem, ⟨10, _⟩ => ⟨S8x4096, .f32⟩
  | .local _ .vmem, ⟨11, _⟩ => ⟨S8x4096, .f32⟩
  | .local _ .vmem, ⟨12, _⟩ => ⟨S8x4096, .f32⟩
  | .local _ .vmem, ⟨13, _⟩ => ⟨S8x4096, .f32⟩
  | .local _ .vmem, ⟨14, _⟩ => ⟨S8x40960, .f32⟩
  | .local _ .vmem, ⟨15, _⟩ => ⟨S8x40960, .f32⟩
  | .local _ .vmem, ⟨16, _⟩ => ⟨S8x4096, .f32⟩
  | .local _ .vmem, ⟨17, _⟩ => ⟨S8x4096, .f32⟩
  | .local _ .vmem, ⟨18, _⟩ => ⟨S8x4096, .f32⟩
  | .local _ .vmem, ⟨19, _⟩ => ⟨S8x4096, .f32⟩
  | .local _ .vmem, ⟨20, _⟩ => ⟨S8x40960, .f32⟩
  | .local _ .vmem, ⟨21, _⟩ => ⟨S8x40960, .f32⟩
  | .local _ .vmem, ⟨22, _⟩ => ⟨S8x4096, .f32⟩
  | .local _ .vmem, ⟨23, _⟩ => ⟨S8x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x40960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x40960 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x40960 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x40960 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]
-- ==== ReferenceIdeal.lean ====
abbrev S64x4096 : Shape := ⟨2, ![64, 4096]⟩
abbrev S64x10x4096 : Shape := ⟨3, ![64, 10, 4096]⟩
abbrev S64x1x4096 : Shape := ⟨3, ![64, 1, 4096]⟩
abbrev S_ : Shape := ⟨0, ![]⟩
abbrev S64x10 : Shape := ⟨2, ![64, 10]⟩
abbrev S64x10x1 : Shape := ⟨3, ![64, 10, 1]⟩

abbrev nBuf : Space → Nat
  | .hbm => 28
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x10x4096, .f32⟩
  | .hbm, ⟨2, _⟩ => ⟨S64x1x4096, .f32⟩
  | .hbm, ⟨3, _⟩ => ⟨S64x10x4096, .f32⟩
  | .hbm, ⟨4, _⟩ => ⟨S64x10x4096, .f32⟩
  | .hbm, ⟨5, _⟩ => ⟨S64x10x4096, .f32⟩
  | .hbm, ⟨6, _⟩ => ⟨S64x10x4096, .f32⟩
  | .hbm, ⟨7, _⟩ => ⟨S64x10x4096, .f32⟩
  | .hbm, ⟨8, _⟩ => ⟨S64x10x4096, .f32⟩
  | .hbm, ⟨9, _⟩ => ⟨S_, .f32⟩
  | .hbm, ⟨10, _⟩ => ⟨S64x10x4096, .f32⟩
  | .hbm, ⟨11, _⟩ => ⟨S64x10x4096, .f32⟩
  | .hbm, ⟨12, _⟩ => ⟨S_, .f32⟩
  | .hbm, ⟨13, _⟩ => ⟨S64x10, .f32⟩
  | .hbm, ⟨14, _⟩ => ⟨S_, .f32⟩
  | .hbm, ⟨15, _⟩ => ⟨S64x10, .f32⟩
  | .hbm, ⟨16, _⟩ => ⟨S64x10, .f32⟩
  | .hbm, ⟨17, _⟩ => ⟨S64x10x1, .f32⟩
  | .hbm, ⟨18, _⟩ => ⟨S64x10x4096, .f32⟩
  | .hbm, ⟨19, _⟩ => ⟨S64x10x4096, .f32⟩
  | .hbm, ⟨20, _⟩ => ⟨S64x10x4096, .f32⟩
  | .hbm, ⟨21, _⟩ => ⟨S_, .f32⟩
  | .hbm, ⟨22, _⟩ => ⟨S64x10, .f32⟩
  | .hbm, ⟨23, _⟩ => ⟨S64x10x1, .f32⟩
  | .hbm, ⟨24, _⟩ => ⟨S64x10x4096, .f32⟩
  | .hbm, ⟨25, _⟩ => ⟨S64x10x4096, .f32⟩
  | .hbm, ⟨26, _⟩ => ⟨S_, .f32⟩
  | .hbm, ⟨27, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Maths.lean ====
/- The mathematics of the claim, with no program in it: one row of the kernel's arithmetic and one row of the
   reference's, both as functions of a row of logits and a family of rows of uniform draws over the extended reals, and
   the proof that they agree when no logit is `⊤`, every draw is below 1, and some entry of some row of draws has a logit
   above `⊥` and a positive draw. -/
module

public import Idealize.ShloMosaic.PureOps.Ideal

@[expose] public section

noncomputable section

namespace Cert.Proof

open Idealize.ShloMosaic

variable {ι κ : Type} [Fintype ι] [Fintype κ]

/-! ## The constants the programs print -/

/-- The pattern of minus infinity is `⊥`. -/
theorem ofBits_neg_inf : Ideal.ofBits .f32 0xFF800000#32 = ⊥ := by
  simp [Ideal.ofBits, Ideal.ieee]

/-- The pattern of plus infinity is `⊤`. -/
theorem ofBits_inf : Ideal.ofBits .f32 0x7F800000#32 = ⊤ := by
  simp [Ideal.ofBits, Ideal.ieee]

/-- The pattern of 2. -/
theorem ofBits_two : Ideal.ofBits .f32 0x40000000#32 = ((2 : ℝ) : EReal) := by
  simp [Ideal.ofBits, Ideal.ieee, -EReal.coe_mul]; norm_num

/-- The pattern of one half. -/
theorem ofBits_half : Ideal.ofBits .f32 0x3F000000#32 = ((2⁻¹ : ℝ) : EReal) := by
  simp [Ideal.ofBits, Ideal.ieee, -EReal.coe_mul]; norm_num

/-! ## The two rows -/

/-- The largest entry of a row. -/
def rowMax (f : ι → EReal) : EReal := Finset.univ.fold max ⊥ f

/-- The kernel's weight of entry `j`: `exp (2 (l j - max l))`. -/
def weight (l : ι → EReal) (j : ι) : EReal := Ideal.exp (((2 : ℝ) : EReal) * (l j - rowMax l))

/-- The kernel's rate of a draw: `(1 / log u)²`. -/
def rate (u : EReal) : EReal := Ideal.div 1 (Ideal.log u) * Ideal.div 1 (Ideal.log u)

/-- The kernel's term of one row of draws at entry `j`: the rate over the row's weighted sum of rates. -/
def term (l u : ι → EReal) (j : ι) : EReal := rate (u j) * Ideal.div 1 (∑ x, rate (u x) * weight l x)

/-- The kernel's result at entry `j`: the weight times the largest term, the maximum started at 0. -/
def kernelRow (l : ι → EReal) (U : κ → ι → EReal) (j : ι) : EReal :=
  weight l j * Finset.univ.fold max 0 fun k => term l (U k) j

/-- The reference's logit with Gumbel noise, over the temperature 1/2. -/
def noisy (l u : ι → EReal) (j : ι) : EReal :=
  Ideal.div (-Ideal.log (-Ideal.log (u j)) + l j) ((2⁻¹ : ℝ) : EReal)

/-- The softmax of a row at entry `j`, shifted by the row's maximum. -/
def softmax (n : ι → EReal) (j : ι) : EReal :=
  Ideal.div (Ideal.exp (n j - rowMax n)) (∑ x, Ideal.exp (n x - rowMax n))

/-- The reference's result at entry `j`: the largest softmax over the rows of draws. -/
def referenceRow (l : ι → EReal) (U : κ → ι → EReal) (j : ι) : EReal :=
  rowMax fun k => softmax (noisy l (U k)) j

/-! ## Maxima of real rows -/

/-- The maximum of a real row is its largest entry. -/
theorem rowMax_coe (f : ι → ℝ) (i : ι) (h : ∀ x, f x ≤ f i) : rowMax (fun x => (f x : EReal)) = (f i : EReal) :=
  le_antisymm (Finset.fold_max_le _ |>.2 ⟨bot_le, fun x _ => EReal.coe_le_coe_iff.2 (h x)⟩)
    (Finset.le_fold_max _ |>.2 (.inr ⟨i, Finset.mem_univ _, le_rfl⟩))

/-- Started at 0 instead, the maximum of a row of nonnegative numbers is the same. -/
theorem fold_max_zero (f : ι → ℝ) (i : ι) (h : ∀ x, f x ≤ f i) (h0 : 0 ≤ f i) :
    (Finset.univ.fold max 0 fun x => (f x : EReal)) = (f i : EReal) :=
  le_antisymm (Finset.fold_max_le _ |>.2 ⟨EReal.coe_nonneg.2 h0, fun x _ => EReal.coe_le_coe_iff.2 (h x)⟩)
    (Finset.le_fold_max _ |>.2 (.inr ⟨i, Finset.mem_univ _, le_rfl⟩))

/-- A sum of reals, in the extended reals. -/
theorem sum_coe (f : ι → ℝ) : (∑ x, (f x : EReal)) = ((∑ x, f x : ℝ) : EReal) :=
  (map_sum (⟨⟨fun r : ℝ => (r : EReal), rfl⟩, EReal.coe_add⟩ : ℝ →+ EReal) f Finset.univ).symm

/-- A quotient of reals, in the extended reals. -/
theorem div_real (x y : ℝ) (h : y ≠ 0) : Ideal.div (x : EReal) (y : EReal) = ((x / y : ℝ) : EReal) := by
  rw [Ideal.div_coe h, ← EReal.coe_mul, one_div, div_eq_mul_inv]

/-- A row with no infinite entry and one entry above `⊥` has a real maximum. -/
theorem rowMax_real (n : ι → EReal) (ht : ∀ x, n x ≠ ⊤) (i : ι) (hi : n i ≠ ⊥) : ∃ M : ℝ, rowMax n = (M : EReal) := by
  have hle : n i ≤ rowMax n := Finset.le_fold_max _ |>.2 (.inr ⟨i, Finset.mem_univ _, le_rfl⟩)
  have hb : rowMax n ≠ ⊥ := fun h => hi (le_bot_iff.1 (h ▸ hle))
  have hT : rowMax n ≠ ⊤ :=
    (Finset.fold_max_lt _ |>.2 ⟨bot_lt_top, fun x _ => lt_top_iff_ne_top.2 (ht x)⟩).ne
  exact ⟨(rowMax n).toReal, (EReal.coe_toReal hT hb).symm⟩

/-- A row that is `⊥` throughout has the maximum `⊥`. -/
theorem rowMax_bot : rowMax (fun _ : ι => (⊥ : EReal)) = ⊥ :=
  le_bot_iff.1 (Finset.fold_max_le _ |>.2 ⟨le_rfl, fun _ _ => le_rfl⟩)

/-! ## A logit and a draw as real numbers -/

/-- `exp (2 x)` as a real number, 0 at `⊥`. -/
def expTwo (x : EReal) : ℝ := if x = ⊥ then 0 else Real.exp (2 * x.toReal)

/-- The rate of a draw as a real number, 0 at a draw that is not positive. -/
def rateReal (u : EReal) : ℝ := if u ≤ 0 then 0 else 1 / Real.log u.toReal * (1 / Real.log u.toReal)

/-- `expTwo` is never negative. -/
theorem expTwo_nonneg (x : EReal) : 0 ≤ expTwo x := by
  unfold expTwo; split <;> positivity

/-- `rateReal` is never negative. -/
theorem rateReal_nonneg (u : EReal) : 0 ≤ rateReal u := by
  unfold rateReal; split
  · exact le_rfl
  · exact mul_self_nonneg _

/-- Above `⊥`, `expTwo` is positive. -/
theorem expTwo_pos (x : EReal) (h : ⊥ < x) : 0 < expTwo x := by
  unfold expTwo; rw [if_neg h.ne']; positivity

/-- A draw strictly between 0 and 1 has a positive rate. -/
theorem rateReal_pos (u : EReal) (h0 : 0 < u) (h1 : u < 1) : 0 < rateReal u := by
  induction u with
  | bot => exact absurd h0 (by simp)
  | top => exact absurd h1 (by simp)
  | coe r =>
    have hl : Real.log r < 0 := Real.log_neg (by exact_mod_cast h0) (by exact_mod_cast h1)
    rw [rateReal, if_neg h0.not_ge, EReal.toReal_coe]
    exact mul_self_pos.2 (one_div_ne_zero hl.ne)

/-- The kernel's rate of a draw below 1 is real. -/
theorem rate_real (u : EReal) (h1 : u < 1) : rate u = (rateReal u : EReal) := by
  induction u with
  | bot => simp [rate, rateReal, Ideal.div]
  | top => exact absurd h1 (by simp)
  | coe r =>
    by_cases h0 : r ≤ 0
    · have h0' : ((r : ℝ) : EReal) ≤ 0 := by exact_mod_cast h0
      simp [rate, rateReal, Ideal.div, h0, h0']
    · have h0' : ¬ ((r : ℝ) : EReal) ≤ 0 := by exact_mod_cast h0
      have hl : Real.log r < 0 := Real.log_neg (not_le.1 h0) (by exact_mod_cast h1)
      rw [rate, rateReal, if_neg h0', EReal.toReal_coe, Ideal.log_coe, if_neg h0, ← EReal.coe_one, div_real _ _ hl.ne,
        ← EReal.coe_mul]

/-- The kernel's weight of a logit is real: `exp (2 l)` times a factor of the row. -/
theorem weight_real (l : ι → EReal) (j : ι) (hj : l j ≠ ⊤) (m : ℝ) (hm : rowMax l = (m : EReal)) :
    weight l j = ((expTwo (l j) * Real.exp (-(2 * m)) : ℝ) : EReal) := by
  rw [weight, hm]
  generalize l j = x at hj ⊢
  induction x with
  | bot => simp [expTwo, EReal.coe_mul_bot_of_pos]
  | top => exact absurd rfl hj
  | coe r =>
    rw [expTwo, if_neg (EReal.coe_ne_bot r), EReal.toReal_coe, ← EReal.coe_sub, ← EReal.coe_mul, Ideal.exp_coe,
      ← Real.exp_add]
    congr 2; ring

/-- The exponential of a noisy logit, as real numbers: the draw's rate times the exponential of twice the logit. -/
theorem exp_noisy (l u : ℝ) (h0 : 0 < u) (h1 : u < 1) :
    Real.exp (2 * (-Real.log (-Real.log u) + l)) = (1 / Real.log u * (1 / Real.log u)) * Real.exp (2 * l) := by
  have hl : 0 < -Real.log u := neg_pos.2 (Real.log_neg h0 h1)
  have e : 2 * (-Real.log (-Real.log u) + l)
      = -Real.log (-Real.log u) + -Real.log (-Real.log u) + 2 * l := by ring
  rw [e, Real.exp_add, Real.exp_add, Real.exp_neg, Real.exp_log hl, one_div, inv_neg, neg_mul_neg]

/-- The reference's noisy logit, of a logit that is not `⊤` and a draw below 1: either `⊥`, where the rate or the
    weight is 0, or a real number whose exponential is the rate times `exp (2 l)`. -/
theorem noisy_real (l u : ι → EReal) (j : ι) (hl : l j ≠ ⊤) (hu : u j < 1) :
    (noisy l u j = ⊥ ∧ rateReal (u j) * expTwo (l j) = 0)
      ∨ ∃ n : ℝ, noisy l u j = (n : EReal) ∧ Real.exp n = rateReal (u j) * expTwo (l j) := by
  unfold noisy
  generalize l j = x at hl ⊢
  generalize u j = y at hu ⊢
  have half : (0 : ℝ) < 2⁻¹ := by norm_num
  have hbot : Ideal.div ⊥ ((2⁻¹ : ℝ) : EReal) = ⊥ := by
    rw [Ideal.div_coe half.ne', EReal.bot_mul_coe_of_pos (by norm_num)]
  induction y with
  | bot => left; simp [rateReal, hbot]
  | top => exact absurd hu (by simp)
  | coe r =>
    by_cases h0 : r ≤ 0
    · have h0' : ((r : ℝ) : EReal) ≤ 0 := by exact_mod_cast h0
      left; simp [rateReal, h0, h0', hbot]
    · have h0' : ¬ ((r : ℝ) : EReal) ≤ 0 := by exact_mod_cast h0
      have h1 : r < 1 := by exact_mod_cast hu
      have hg : 0 < -Real.log r := neg_pos.2 (Real.log_neg (not_le.1 h0) h1)
      rw [Ideal.log_coe, if_neg h0, ← EReal.coe_neg, Ideal.log_coe, if_neg hg.not_ge, ← EReal.coe_neg]
      induction x with
      | bot => left; simp [expTwo, hbot]
      | top => exact absurd rfl hl
      | coe s =>
        right
        refine ⟨2 * (-Real.log (-Real.log r) + s), ?_, ?_⟩
        · rw [← EReal.coe_add, div_real _ _ half.ne', EReal.coe_eq_coe_iff]; ring
        · rw [exp_noisy s r (not_le.1 h0) h1, rateReal, if_neg h0', expTwo, if_neg (EReal.coe_ne_bot s),
            EReal.toReal_coe, EReal.toReal_coe]

/-! ## One row of draws -/

section Row

variable (l u : ι → EReal) (hl : ∀ x, l x ≠ ⊤) (hu : ∀ x, u x < 1)

/-- A row's total: the sum over its entries of the rate times `exp (2 l)`. -/
def total : ℝ := ∑ x, rateReal (u x) * expTwo (l x)

/-- No summand of the total is negative. -/
theorem mass_nonneg (x : ι) : 0 ≤ rateReal (u x) * expTwo (l x) :=
  mul_nonneg (rateReal_nonneg _) (expTwo_nonneg _)

/-- The total is never negative. -/
theorem total_nonneg : 0 ≤ total l u := Finset.sum_nonneg fun x _ => mass_nonneg l u x

/-- Where the total is 0, every summand is. -/
theorem mass_eq_zero (h : total l u = 0) (x : ι) : rateReal (u x) * expTwo (l x) = 0 :=
  (Finset.sum_eq_zero_iff_of_nonneg fun x _ => mass_nonneg l u x).1 h x (Finset.mem_univ _)

include hl hu

/-- The reference's softmax of a row with a positive total. -/
theorem softmax_live (h : 0 < total l u) (j : ι) :
    softmax (noisy l u) j = ((rateReal (u j) * expTwo (l j) / total l u : ℝ) : EReal) := by
  have hn := fun x => noisy_real l u x (hl x) (hu x)
  obtain ⟨i, -, hi⟩ := Finset.exists_ne_zero_of_sum_ne_zero h.ne'
  obtain ⟨M, hM⟩ := rowMax_real (noisy l u)
    (fun x => by
      rcases hn x with ⟨e, -⟩ | ⟨n, e, -⟩ <;> rw [e]
      · exact bot_ne_top
      · exact EReal.coe_ne_top _) i
    (by
      rcases hn i with ⟨-, e⟩ | ⟨n, e, -⟩
      · exact absurd e hi
      · rw [e]; exact EReal.coe_ne_bot _)
  have he : ∀ x, Ideal.exp (noisy l u x - rowMax (noisy l u))
      = ((rateReal (u x) * expTwo (l x) * Real.exp (-M) : ℝ) : EReal) := fun x => by
    rw [hM]
    rcases hn x with ⟨e, e0⟩ | ⟨n, e, e1⟩
    · rw [e, e0, EReal.bot_sub]; simp
    · rw [e, ← EReal.coe_sub, Ideal.exp_coe, ← e1, ← Real.exp_add, sub_eq_add_neg]
  simp only [softmax, he, sum_coe, ← Finset.sum_mul]
  change Ideal.div _ ((total l u * Real.exp (-M) : ℝ) : EReal) = _
  rw [div_real _ _ (mul_pos h (Real.exp_pos _)).ne', EReal.coe_eq_coe_iff]
  exact mul_div_mul_right _ _ (Real.exp_ne_zero _)

/-- The reference's softmax of a row whose total is 0 is 0 over 0 throughout, which reads `⊥`. -/
theorem softmax_dead (h : total l u = 0) (j : ι) : softmax (noisy l u) j = ⊥ := by
  have e : noisy l u = fun _ => ⊥ := funext fun x => by
    rcases noisy_real l u x (hl x) (hu x) with ⟨e, -⟩ | ⟨n, -, e⟩
    · exact e
    · exact absurd (e.trans (mass_eq_zero l u h x)) (Real.exp_ne_zero _)
  rw [e]
  simp [softmax, rowMax_bot, Ideal.div]

/-- The kernel's sum over a row: the row's total times the weights' factor. -/
theorem weighted_sum (m : ℝ) (hm : rowMax l = (m : EReal)) :
    ∑ x, rate (u x) * weight l x = ((total l u * Real.exp (-(2 * m)) : ℝ) : EReal) := by
  simp only [rate_real _ (hu _), weight_real l _ (hl _) m hm, ← EReal.coe_mul, sum_coe, total, Finset.sum_mul, mul_assoc]

/-- The kernel's term of a row of draws is real, wherever the rate is 0 or the row's total is positive. -/
theorem term_real (m : ℝ) (hm : rowMax l = (m : EReal)) (j : ι) (h : total l u = 0 → rateReal (u j) = 0) :
    term l u j = ((rateReal (u j) / (total l u * Real.exp (-(2 * m))) : ℝ) : EReal) := by
  rw [term, weighted_sum l u hl hu m hm, rate_real _ (hu j)]
  rcases (total_nonneg l u).eq_or_lt with h0 | h0
  · rw [h h0.symm]; simp
  · rw [← EReal.coe_one, div_real _ _ (mul_pos h0 (Real.exp_pos _)).ne', ← EReal.coe_mul, mul_one_div]

end Row

/-! ## The two rows agree -/

/-- THE EQUATION: for logits that are not `⊤`, draws below 1, and one entry of one row of draws with a logit above `⊥`
    and a positive draw, the kernel's row is the reference's. -/
theorem kernelRow_eq_referenceRow (l : ι → EReal) (U : κ → ι → EReal) (hl : ∀ x, l x ≠ ⊤) (hU : ∀ k x, U k x < 1)
    (k₀ : κ) (x₀ : ι) (hx : ⊥ < l x₀) (hk : 0 < U k₀ x₀) (j : ι) : kernelRow l U j = referenceRow l U j := by
  obtain ⟨m, hm⟩ := rowMax_real l hl x₀ hx.ne'
  -- the value at each row of draws: 0 where the row's total is 0
  let q : κ → ℝ := fun k => rateReal (U k j) * expTwo (l j) / total l (U k)
  have hq : ∀ k, 0 ≤ q k := fun k => div_nonneg (mass_nonneg l (U k) j) (total_nonneg l (U k))
  have hdead : ∀ k, total l (U k) = 0 → q k = 0 := fun k h => by simp [q, h]
  have hlive : 0 < total l (U k₀) :=
    Finset.sum_pos' (fun x _ => mass_nonneg l (U k₀) x)
      ⟨x₀, Finset.mem_univ _, mul_pos (rateReal_pos _ hk (hU k₀ x₀)) (expTwo_pos _ hx)⟩
  haveI : Nonempty κ := ⟨k₀⟩
  obtain ⟨i, hi⟩ := Finite.exists_max q
  -- the reference: the largest `q`
  have hR : referenceRow l U j = (q i : EReal) := by
    have hle : ∀ k, softmax (noisy l (U k)) j ≤ (q i : EReal) := fun k => by
      rcases (total_nonneg l (U k)).eq_or_lt with h | h
      · rw [softmax_dead l (U k) hl (hU k) h.symm]; exact bot_le
      · rw [softmax_live l (U k) hl (hU k) h]; exact EReal.coe_le_coe_iff.2 (hi k)
    refine le_antisymm (Finset.fold_max_le _ |>.2 ⟨bot_le, fun k _ => hle k⟩)
      (Finset.le_fold_max _ |>.2 (.inr ?_))
    rcases (total_nonneg l (U i)).eq_or_lt with h | h
    · refine ⟨k₀, Finset.mem_univ _, ?_⟩
      rw [hdead i h.symm, softmax_live l (U k₀) hl (hU k₀) hlive]
      exact EReal.coe_le_coe_iff.2 (hq k₀)
    · exact ⟨i, Finset.mem_univ _, (softmax_live l (U i) hl (hU i) h j).ge⟩
  rw [hR, kernelRow, weight_real l j (hl j) m hm]
  have hc : Real.exp (-(2 * m)) ≠ 0 := Real.exp_ne_zero _
  rcases (expTwo_nonneg (l j)).eq_or_lt with h | h
  · -- a weight of 0
    simp [q, ← h]
  · -- a positive weight: every term is real, and the weight times it is `q`
    have hr : ∀ k, total l (U k) = 0 → rateReal (U k j) = 0 := fun k h0 =>
      (mul_eq_zero.1 (mass_eq_zero l (U k) h0 j)).resolve_right h.ne'
    let t : κ → ℝ := fun k => rateReal (U k j) / (total l (U k) * Real.exp (-(2 * m)))
    have ht : ∀ k, term l (U k) j = (t k : EReal) := fun k => term_real l (U k) hl (hU k) m hm j (hr k)
    have hqt : ∀ k, q k = expTwo (l j) * Real.exp (-(2 * m)) * t k := fun k => by
      simp only [q, t]
      rcases (total_nonneg l (U k)).eq_or_lt with h0 | h0
      · simp [← h0]
      · have := h0.ne'; field_simp
    have hw : 0 < expTwo (l j) * Real.exp (-(2 * m)) := mul_pos h (Real.exp_pos _)
    have hti : ∀ k, t k ≤ t i := fun k => le_of_mul_le_mul_left (by rw [← hqt, ← hqt]; exact hi k) hw
    have ht0 : 0 ≤ t i := nonneg_of_mul_nonneg_right (by rw [← hqt]; exact hq i) hw
    simp only [ht]
    rw [fold_max_zero t i hti ht0, ← EReal.coe_mul, ← hqt]

end Cert.Proof

end
-- ==== Proof.Reference.lean ====
/- What the reference computes: each entry of its result is the reference's row of the entry's logits and draws. The
   noisy logits and the softmax are read separately, so that neither is read again inside the other. -/
module

public import proofs.«01_k».proof.Proof.Gen.ReferenceIdeal.Read
public import proofs.«01_k».proof.Proof.Maths
public import Idealize.ShloMosaic.Lib.Pointwise
public import Idealize.ShloMosaic.Lib.Tactic.CleanTypes

@[expose] public section

set_option maxRecDepth 16384

noncomputable section

namespace Cert.Proof.Reference

open Idealize.ShloMosaic Idealize.ShloMosaic.TcCoe Cert.ReferenceIdeal Cert.ReferenceIdeal.Gen Cert.ReferenceIdeal.Read

/-! The operands' indices that the layout operations read. -/

/-- An entry's logit: its own row and lane, whatever the draw. -/
theorem idx_logit (b : Fin 64) (k : Fin 10) (j : Fin 4096) : idx_main_v0 (idx_main_v5 (ix3 b k j)) = ix2 b j :=
  funext fun a => match a with | ⟨0, _⟩ => rfl | ⟨1, _⟩ => rfl
/-- An entry's maximum: that of its row and draw. -/
theorem idx_max (b : Fin 64) (k : Fin 10) (j : Fin 4096) : idx_main_v12 (idx_main_v13 (ix3 b k j)) = ix2 b k :=
  funext fun a => match a with | ⟨0, _⟩ => rfl | ⟨1, _⟩ => rfl
/-- The entries of an entry's sum: those of its row and draw. -/
theorem idx_sum (b : Fin 64) (k : Fin 10) (j x : Fin 4096) :
    idx_main_v16 (idx_main_v17 (idx_main_v18 (ix3 b k j))) x = ix3 b k x :=
  funext fun a => match a with | ⟨0, _⟩ => rfl | ⟨1, _⟩ => rfl | ⟨2, _⟩ => rfl

variable (x0 : FVec Ideal S64x4096 .f32) (x1 : FVec Ideal S64x10x4096 .f32)

/-- Row `b` of the logits. -/
def logits (b : Fin 64) : Fin 4096 → EReal := fun j => x0 (ix2 b j)

/-- Row `b` of the draws, one row of lanes per draw. -/
def draws (b : Fin 64) : Fin 10 → Fin 4096 → EReal := fun k j => x1 (ix3 b k j)

/-- The noisy logits over the temperature, read at an index. -/
theorem noisy_apply (b : Fin 64) (k : Fin 10) (j : Fin 4096) :
    val_main_v8 (F := Ideal) x0 x1 (ix3 b k j) = noisy (logits x0 b) (draws x1 b k) j := by
  rw [val_main_v8_apply, val_main_v6_apply, val_main_v4_apply, val_main_v3_apply, val_main_v2_apply, val_main_v1_apply,
    val_main_v5_apply, val_main_v0_apply, val_main_v7_apply, val_main_cst_apply, idx_logit]
  pointwise
  rw [ofBits_half]
  rfl

/-- The maximum that the softmax is shifted by. -/
theorem rowMax_apply (b : Fin 64) (k : Fin 10) :
    val_main_v11 (F := Ideal) x0 x1 (ix2 b k) = rowMax (noisy (logits x0 b) (draws x1 b k)) := by
  have e : val_main_v9 (F := Ideal) x0 x1 (ix2 b k) = rowMax (noisy (logits x0 b) (draws x1 b k)) := by
    have hn := noisy_apply x0 x1 b k
    unfold val_main_v9 val_main_cst_0
    generalize val_main_v8 (F := Ideal) x0 x1 = n at hn ⊢
    clean_types
    pointwise
    simp only [hn, ofBits_neg_inf]
    rfl
  rw [val_main_v11_apply, val_main_v10_apply, val_main_cst_1_apply, e]
  pointwise
  rw [ofBits_neg_inf]
  exact max_eq_right bot_le

/-- The shifted exponential, read at an index. -/
theorem exp_apply (b : Fin 64) (k : Fin 10) (j : Fin 4096) :
    val_main_v15 (F := Ideal) x0 x1 (ix3 b k j)
      = Ideal.exp (noisy (logits x0 b) (draws x1 b k) j - rowMax (noisy (logits x0 b) (draws x1 b k))) := by
  rw [val_main_v15_apply, val_main_v14_apply, noisy_apply, val_main_v13_apply, val_main_v12_apply, idx_max,
    rowMax_apply]
  rfl

/-- The softmax, read at an index. -/
theorem softmax_apply (b : Fin 64) (k : Fin 10) (j : Fin 4096) :
    val_main_v19 (F := Ideal) x0 x1 (ix3 b k j) = softmax (noisy (logits x0 b) (draws x1 b k)) j := by
  rw [val_main_v19_apply, exp_apply, val_main_v18_apply, val_main_v17_apply, val_main_v16_apply, val_main_cst_2_apply]
  simp only [idx_sum, exp_apply]
  pointwise
  rfl

/-- THE REFERENCE: its result at row `b` and entry `j`. -/
theorem result_apply (b : Fin 64) (j : Fin 4096) :
    val_main_v20 (F := Ideal) x0 x1 (ix2 b j) = referenceRow (logits x0 b) (draws x1 b) j := by
  have hs := fun k => softmax_apply x0 x1 b k j
  unfold val_main_v20 val_main_cst_3
  generalize val_main_v19 (F := Ideal) x0 x1 = s at hs ⊢
  clean_types
  pointwise
  simp only [hs, ofBits_neg_inf]
  rfl

end Cert.Proof.Reference

end
-- ==== Proof.Inputs.lean ====
/- What the precondition says of the inputs, entry by entry. -/
module

public import proofs.«01_k».proof.Proof.Gen.Pre_drawable
public import proofs.«01_k».proof.Proof.Maths
public import Idealize.ShloMosaic.Lib.Pointwise
public import Idealize.ShloMosaic.Lib.ReduceAll
public import Idealize.ShloMosaic.Lib.Routing.OpsOrder

@[expose] public section

set_option maxRecDepth 16384

noncomputable section

namespace Cert.Proof.Inputs

open Idealize.ShloMosaic Cert.Pre_drawable Cert.Pre_drawable.Gen

/-- A bit made of a decided proposition is 1 exactly when the proposition holds. -/
theorem ofBool_one {p : Prop} [Decidable p] : BitVec.ofBool (decide p) = 1#1 ↔ p := by
  by_cases h : p <;> simp [h]

variable (x0 : FVec Ideal S64x4096 .f32) (x1 : FVec Ideal S64x10x4096 .f32)
  (h : Cert.Pre_drawable.fn (F := Ideal) x0 x1 = fun _ => 1#1)

include h

/-- No logit is `⊤`. -/
theorem logit_ne_top (i : S64x4096.Idx) : x0 i ≠ ⊤ := by
  have h0 := congrFun h ix0
  have h1 := Host.reduce_andi_all _ _ _ _ _ (IntOp.andi_eq_one.1 (IntOp.andi_eq_one.1 h0).1).1 i
  pointwise at h1
  rw [ofBits_inf, ofBool_one] at h1
  exact h1.ne

/-- Every draw is below 1. -/
theorem draw_lt_one (i : S64x10x4096.Idx) : x1 i < 1 := by
  have h0 := congrFun h ix0
  have h1 := Host.reduce_andi_all _ _ _ _ _ (IntOp.andi_eq_one.1 (IntOp.andi_eq_one.1 h0).1).2 i
  pointwise at h1
  rwa [ofBool_one] at h1

/-- In every row, some draw gives some entry a chance. -/
theorem live (b : Fin 64) : ∃ k j, ⊥ < x0 (ix2 b j) ∧ 0 < x1 (ix3 b k j) := by
  have h0 := congrFun h ix0
  have h1 := Host.reduce_andi_all _ _ _ _ _ (IntOp.andi_eq_one.1 h0).2 (ix1 b)
  pointwise at h1
  rw [Routing.fold_ori] at h1
  obtain ⟨⟨k, j⟩, -, hkj⟩ := h1
  rw [ofBits_neg_inf] at hkj
  obtain ⟨h2, h3⟩ := IntOp.andi_eq_one.1 hkj
  exact ⟨k, j, ofBool_one.1 h2, ofBool_one.1 h3⟩

end Cert.Proof.Inputs

end
-- ==== Proof.Block.lean ====
/- What one grid point of the kernel computes. The four calls of the kernel run the same body, so the block that a call
   stores is stated once, of the first call's, and carried to the other three. -/
module

public import proofs.«01_k».proof.Proof.Gen.KernelIdeal.Frame
public import proofs.«01_k».proof.Proof.Maths
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen

/-- A maximum over ten entries from 0, as the kernel's loop takes it. -/
theorem fold_max_ten (f : Fin 10 → EReal) :
    max (max (max (max (max (max (max (max (max (max 0 (f 0)) (f 1)) (f 2)) (f 3)) (f 4)) (f 5)) (f 6)) (f 7)) (f 8)) (f 9)
      = Finset.univ.fold max 0 f :=
  eq_of_forall_ge_iff fun c => by
    rw [Finset.fold_max_le]
    simp [Fin.forall_fin_succ, and_assoc]

/-- Row `r` of a block of logits. -/
def logitRow (x0 : Vec Ideal S8x4096 .f32) (r : Fin 8) : Fin 4096 → EReal := fun j => x0 (ix2 r j)

/-- Row `r` of a block of draws, its ten stretches of 4096 lanes apart. -/
def drawRow (x1 : Vec Ideal S8x40960 .f32) (r : Fin 8) : Fin 10 → Fin 4096 → EReal :=
  fun k j => x1 (ix2 r ⟨k.val * 4096 + j.val, by omega⟩)

/-- THE BLOCK: each row of what a grid point of the first call stores is the kernel's row of its logits and draws. -/
theorem block (x0 : Vec Ideal S8x4096 .f32) (x1 : Vec Ideal S8x40960 .f32) (r : Fin 8) (j : Fin 4096) :
    out0_2 x0 x1 (ix2 r j) = kernelRow (logitRow x0 r) (drawRow x1 r) j := by
  unfold out0_2
  frame_out
  unfold_payloads
  pointwise
  rw [kernelRow, ← fold_max_ten]
  simp only [ofBits_neg_inf, ofBits_two, term, rate, weight, rowMax, logitRow, drawRow, Fin.isValue, Fin.coe_ofNat_eq_mod,
    Nat.reduceMod, Nat.reduceMul, zero_add]
  rfl

/-- The second call's block is the first call's function of its inputs. -/
theorem out1_eq (x0 : Vec Ideal S8x4096 .f32) (x1 : Vec Ideal S8x40960 .f32) : out1_2 x0 x1 = out0_2 x0 x1 := rfl
/-- So is the third call's. -/
theorem out2_eq (x0 : Vec Ideal S8x4096 .f32) (x1 : Vec Ideal S8x40960 .f32) : out2_2 x0 x1 = out0_2 x0 x1 := rfl
/-- So is the fourth call's. -/
theorem out3_eq (x0 : Vec Ideal S8x4096 .f32) (x1 : Vec Ideal S8x40960 .f32) : out3_2 x0 x1 = out0_2 x0 x1 := rfl

end Cert.Proof

end
-- ==== Proof.Arrays.lean ====
/- What each of the four calls leaves in its result array. Call `q` reads rows `16 q` to `16 q + 15` of the logits, eight
   rows per grid point, and its own 16 rows of draws. -/
module

public import proofs.«01_k».proof.Proof.Block

@[expose] public section

set_option maxRecDepth 16384

noncomputable section

namespace Cert.Proof

open Idealize.ShloMosaic Idealize.ShloMosaic.TcCoe Cert.KernelIdeal Cert.KernelIdeal.Gen

/-- The array a call leaves, from the logits, its rows of draws and the number `o ≤ 48` of its first row. -/
def callArray (o : Fin 49) (L : Vec Ideal S64x4096 .f32) (U : Vec Ideal S16x40960 .f32) : Vec Ideal S16x4096 .f32 :=
  fun i => kernelRow (fun j : Fin 4096 => L (ix2 ⟨o.val + (i 0).val, by have := (i 0).isLt; change _ < 16 at this; omega⟩ j))
    (fun (k : Fin 10) (j : Fin 4096) => U (ix2 (i 0) ⟨k.val * 4096 + j.val, by omega⟩)) (i 1)

/-- A block whose rows are the call's rows `8 p` to `8 p + 7` is that part of the call's array. -/
theorem block_eq_callArray (o : Fin 49) (L : Vec Ideal S64x4096 .f32) (U : Vec Ideal S16x40960 .f32)
    (x0 : Vec Ideal S8x4096 .f32) (x1 : Vec Ideal S8x40960 .f32) (p : ℕ) (y : S8x4096.Idx) (i : S16x4096.Idx)
    (hi0 : (i 0).val = p * 8 + (y 0).val) (hi1 : (i 1).val = (y 1).val)
    (h0 : ∀ (r : Fin 8) (j : Fin 4096) (a : Fin 64), a.val = o.val + (p * 8 + r.val) → x0 (ix2 r j) = L (ix2 a j))
    (h1 : ∀ (r : Fin 8) (j : Fin 40960) (a : Fin 16), a.val = p * 8 + r.val → x1 (ix2 r j) = U (ix2 a j)) :
    out0_2 x0 x1 y = callArray o L U i := by
  idx_vars y
  idx_vars i
  rw [block]
  obtain rfl : i1 = y1 := Fin.ext hi1
  unfold callArray
  congr 1
  · exact funext fun j => h0 _ _ _ (congrArg (o.val + ·) hi0)
  · exact funext fun k => funext fun j => h1 _ _ _ hi0

variable (V : (c : Dev nD) → (b : Ref sig .tc) → Buf (Elt Ideal) ((c : Thread nD τ).loc b)) (c : Dev nD)

/-- The first call's array. -/
theorem array0 : (dat0 V c).arrAt 2 cfg0.N = callArray 0 (V c main_arg0) (V c main_call0_v1) := by
  have e0 : ∀ t : Fin cfg0.N, win0_0.index t = ![0 + t.val, 0] := (by decide +kernel : ∀ t : Fin grid0.N, _)
  have e1 : ∀ t : Fin cfg0.N, win0_1.index t = ![t.val, 0] := (by decide +kernel : ∀ t : Fin grid0.N, _)
  have e2 : ∀ t : Fin cfg0.N, win0_2.index t = ![t.val, 0] := (by decide +kernel : ∀ t : Fin grid0.N, _)
  refine (dat0 V c).arrAt_eq_of_covers 2 _ (by decide +kernel) fun t _ y => ?_
  blk_simp
  rw [after0_2]
  exact block_eq_callArray _ _ _ _ _ t.val y _ (by blk_simp [e2]) (by blk_simp [e2])
    (fun r j a h => by blk_ext [iblk0, e0]) (fun r j a h => by blk_ext [iblk0, e1])

/-- The second call's array. -/
theorem array1 : (dat1 V c).arrAt 2 cfg1.N = callArray 16 (V c main_arg0) (V c main_call0_v4) := by
  have e0 : ∀ t : Fin cfg1.N, win1_0.index t = ![2 + t.val, 0] := (by decide +kernel : ∀ t : Fin grid1.N, _)
  have e1 : ∀ t : Fin cfg1.N, win1_1.index t = ![t.val, 0] := (by decide +kernel : ∀ t : Fin grid1.N, _)
  have e2 : ∀ t : Fin cfg1.N, win1_2.index t = ![t.val, 0] := (by decide +kernel : ∀ t : Fin grid1.N, _)
  refine (dat1 V c).arrAt_eq_of_covers 2 _ (by decide +kernel) fun t _ y => ?_
  blk_simp
  rw [after1_2, out1_eq]
  exact block_eq_callArray _ _ _ _ _ t.val y _ (by blk_simp [e2]) (by blk_simp [e2])
    (fun r j a h => by blk_ext [iblk1, e0]) (fun r j a h => by blk_ext [iblk1, e1])

/-- The third call's array. -/
theorem array2 : (dat2 V c).arrAt 2 cfg2.N = callArray 32 (V c main_arg0) (V c main_call0_v7) := by
  have e0 : ∀ t : Fin cfg2.N, win2_0.index t = ![4 + t.val, 0] := (by decide +kernel : ∀ t : Fin grid2.N, _)
  have e1 : ∀ t : Fin cfg2.N, win2_1.index t = ![t.val, 0] := (by decide +kernel : ∀ t : Fin grid2.N, _)
  have e2 : ∀ t : Fin cfg2.N, win2_2.index t = ![t.val, 0] := (by decide +kernel : ∀ t : Fin grid2.N, _)
  refine (dat2 V c).arrAt_eq_of_covers 2 _ (by decide +kernel) fun t _ y => ?_
  blk_simp
  rw [after2_2, out2_eq]
  exact block_eq_callArray _ _ _ _ _ t.val y _ (by blk_simp [e2]) (by blk_simp [e2])
    (fun r j a h => by blk_ext [iblk2, e0]) (fun r j a h => by blk_ext [iblk2, e1])

/-- The fourth call's array. -/
theorem array3 : (dat3 V c).arrAt 2 cfg3.N = callArray 48 (V c main_arg0) (V c main_call0_v10) := by
  have e0 : ∀ t : Fin cfg3.N, win3_0.index t = ![6 + t.val, 0] := (by decide +kernel : ∀ t : Fin grid3.N, _)
  have e1 : ∀ t : Fin cfg3.N, win3_1.index t = ![t.val, 0] := (by decide +kernel : ∀ t : Fin grid3.N, _)
  have e2 : ∀ t : Fin cfg3.N, win3_2.index t = ![t.val, 0] := (by decide +kernel : ∀ t : Fin grid3.N, _)
  refine (dat3 V c).arrAt_eq_of_covers 2 _ (by decide +kernel) fun t _ y => ?_
  blk_simp
  rw [after3_2, out3_eq]
  exact block_eq_callArray _ _ _ _ _ t.val y _ (by blk_simp [e2]) (by blk_simp [e2])
    (fun r j a h => by blk_ext [iblk3, e0]) (fun r j a h => by blk_ext [iblk3, e1])

end Cert.Proof

end
-- ==== Proof.Result.lean ====
/- What the kernel's run leaves in its result array, at every row and column. -/
module

public import proofs.«01_k».proof.Proof.Arrays

@[expose] public section

set_option maxRecDepth 16384

noncomputable section

namespace Cert.Proof

open Idealize.ShloMosaic Idealize.ShloMosaic.TcCoe Cert.KernelIdeal Cert.KernelIdeal.Gen

/-- The whole result: row `b` is what the kernel computes from row `b` of the logits and of the draws. -/
def result (l : Vec Ideal S64x4096 .f32) (u : Vec Ideal S64x10x4096 .f32) : Vec Ideal S64x4096 .f32 :=
  fun i => kernelRow (fun j : Fin 4096 => l (ix2 (i 0) j)) (fun (k : Fin 10) (j : Fin 4096) => u (ix3 (i 0) k j)) (i 1)

/-- Sixteen rows of the draws from row `o` on, each row's draws laid end to end. -/
def rowsFrom (o : ℕ) (hs : S64x10x4096.Slices ![o, 0, 0] S16x10x4096) (u : Vec Ideal S64x10x4096 .f32) :
    Vec Ideal S16x40960 .f32 :=
  shapeCast S16x40960 (extractStridedSlice S16x10x4096 ![o, 0, 0] u hs) shapeCasts_S16x10x4096_S16x40960

/-- `rowsFrom` holds draw `(k, j)` of its row `r` at position `4096 k + j`. -/
theorem rowsFrom_apply (o : ℕ) (hs : S64x10x4096.Slices ![o, 0, 0] S16x10x4096) (u : Vec Ideal S64x10x4096 .f32)
    (r : Fin 16) (k : Fin 10) (j : Fin 4096) (b : Fin 64) (hb : b.val = o + r.val) :
    rowsFrom o hs u (ix2 r ⟨k.val * 4096 + j.val, by omega⟩) = u (ix3 b k j) := by
  unfold rowsFrom
  pointwise
  exact congrArg (fun a => u (ix3 a k j)) (Fin.ext hb.symm)

/-- A call's array over those rows is its part of the whole result. -/
theorem callArray_rowsFrom (o : Fin 49) (hs : S64x10x4096.Slices ![o.val, 0, 0] S16x10x4096)
    (l : Vec Ideal S64x4096 .f32) (u : Vec Ideal S64x10x4096 .f32) (r : Fin 16) (j : Fin 4096) (b : Fin 64)
    (hb : b.val = o.val + r.val) :
    callArray o l (rowsFrom o.val hs u) (ix2 r j) = result l u (ix2 b j) := by
  unfold callArray result
  congr 1
  · exact funext fun j => congrArg (fun a => l (ix2 a j)) (Fin.ext hb.symm)
  · exact funext fun k => funext fun j => rowsFrom_apply o.val hs u r k j b hb

variable (m : (ℓ : Loc nD τ sig) → Buf (Elt Ideal) ℓ) (ρ : Dev nD → PrngReg) (c : Dev nD)

/-- The logits as launched. -/
abbrev logits : Vec Ideal S64x4096 .f32 := m ((c.tc : Thread nD τ).loc main_arg0)
/-- The draws as launched. -/
abbrev draws : Vec Ideal S64x10x4096 .f32 := m ((c.tc : Thread nD τ).loc main_arg1)

/-- The draws the first call reads. -/
theorem draws0 : V1 m ρ c main_call0_v1 = rowsFrom 0 slices_S64x10x4096_S16x10x4096_0_0_0 (draws m c) := by
  rw [draws, ← W0_args m ρ c main_arg1 (by decide)]
  unfold_abbrev_sides
  after_results
  rfl

/-- The draws the second call reads. -/
theorem draws1 : V3 m ρ c main_call0_v4 = rowsFrom 16 slices_S64x10x4096_S16x10x4096_16_0_0 (draws m c) := by
  rw [draws, ← W2_args m ρ c main_arg1 (by decide)]
  unfold_abbrev_sides
  after_results
  rfl

/-- The draws the third call reads. -/
theorem draws2 : V5 m ρ c main_call0_v7 = rowsFrom 32 slices_S64x10x4096_S16x10x4096_32_0_0 (draws m c) := by
  rw [draws, ← W4_args m ρ c main_arg1 (by decide)]
  unfold_abbrev_sides
  after_results
  rfl

/-- The draws the fourth call reads. -/
theorem draws3 : V7 m ρ c main_call0_v10 = rowsFrom 48 slices_S64x10x4096_S16x10x4096_48_0_0 (draws m c) := by
  rw [draws, ← W6_args m ρ c main_arg1 (by decide)]
  unfold_abbrev_sides
  after_results
  rfl

/-- The first call's array, once all four calls have run. -/
theorem end0 : W8 m ρ c (Proc.devRef .tc main_call0_v2)
    = callArray 0 (logits m c) (rowsFrom 0 slices_S64x10x4096_S16x10x4096_0_0_0 (draws m c)) := by
  rw [W8_of m ρ c main_call0_v2 (by decide), W7_of m ρ c main_call0_v2 (by decide),
    W6_of m ρ c main_call0_v2 (by decide), W5_of m ρ c main_call0_v2 (by decide),
    W4_of m ρ c main_call0_v2 (by decide), W3_of m ρ c main_call0_v2 (by decide)]
  refine (W2_arr m ρ c 2).trans ((array0 (V1 m ρ) c).trans ?_)
  rw [draws0]
  exact congrArg (callArray _ · _) (W1_args m ρ c main_arg0 (by decide))

/-- The second call's array, once all four calls have run. -/
theorem end1 : W8 m ρ c (Proc.devRef .tc main_call0_v5)
    = callArray 16 (logits m c) (rowsFrom 16 slices_S64x10x4096_S16x10x4096_16_0_0 (draws m c)) := by
  rw [W8_of m ρ c main_call0_v5 (by decide), W7_of m ρ c main_call0_v5 (by decide),
    W6_of m ρ c main_call0_v5 (by decide), W5_of m ρ c main_call0_v5 (by decide)]
  refine (W4_arr m ρ c 2).trans ((array1 (V3 m ρ) c).trans ?_)
  rw [draws1]
  exact congrArg (callArray _ · _) (W3_args m ρ c main_arg0 (by decide))

/-- The third call's array, once all four calls have run. -/
theorem end2 : W8 m ρ c (Proc.devRef .tc main_call0_v8)
    = callArray 32 (logits m c) (rowsFrom 32 slices_S64x10x4096_S16x10x4096_32_0_0 (draws m c)) := by
  rw [W8_of m ρ c main_call0_v8 (by decide), W7_of m ρ c main_call0_v8 (by decide)]
  refine (W6_arr m ρ c 2).trans ((array2 (V5 m ρ) c).trans ?_)
  rw [draws2]
  exact congrArg (callArray _ · _) (W5_args m ρ c main_arg0 (by decide))

/-- The fourth call's array, once all four calls have run. -/
theorem end3 : W8 m ρ c (Proc.devRef .tc main_call0_v11)
    = callArray 48 (logits m c) (rowsFrom 48 slices_S64x10x4096_S16x10x4096_48_0_0 (draws m c)) := by
  refine (W8_arr m ρ c 2).trans ((array3 (V7 m ρ) c).trans ?_)
  rw [draws3]
  exact congrArg (callArray _ · _) (W7_args m ρ c main_arg0 (by decide))

/-- The result array the run leaves. -/
theorem result_eq : W9 m ρ c (Proc.devRef .tc main_v0) = result (logits m c) (draws m c) := by
  have h : W9 m ρ c (Proc.devRef .tc main_v0) = concatenate S64x4096 0
      [⟨S16x4096, W8 m ρ c (Proc.devRef .tc main_call0_v2)⟩, ⟨S16x4096, W8 m ρ c (Proc.devRef .tc main_call0_v5)⟩,
       ⟨S16x4096, W8 m ρ c (Proc.devRef .tc main_call0_v8)⟩, ⟨S16x4096, W8 m ρ c (Proc.devRef .tc main_call0_v11)⟩]
      concatenates_S16x4096_S16x4096_S16x4096_S16x4096_S64x4096_d0 := by
    unfold_abbrev_sides
    after_results
    rfl
  rw [h, end0, end1, end2, end3]
  clear h
  funext i
  idx_vars i
  pointwise
  have part := fun (o : Fin 49) (hs : S64x10x4096.Slices ![o.val, 0, 0] S16x10x4096) (r : Fin 16) (hb : i0.val = o.val + r.val) =>
    callArray_rowsFrom o hs (logits m c) (draws m c) r i1 i0 hb
  split
  · exact part 0 _ _ (by simp)
  split
  · exact part 16 _ _ (by simp; omega)
  split
  · exact part 32 _ _ (by simp; omega)
  · exact part 48 _ _ (by simp; omega)

end Cert.Proof

end
-- ==== Proof.Run.lean ====
/- The kernel's run, with what it leaves in the result array. -/
module

public import proofs.«01_k».proof.Proof.Gen.KernelIdeal.Frame

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution of the kernel ends with the result array as the four calls and the host operations around them leave
    it, and with the argument arrays as launched. -/
theorem run : θ_run defs (onTc (τ := τ) (main (F := F))) ⟨m, fun _ => 0, ρ⟩ (fun r => ∀ c : Dev nD,
      r.2.mem ((c.tc : Thread nD τ).loc main_v0) = W9 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v0 (by decide)), (h c _ (mem_uc main_arg0 (by decide))).trans (W9_main_arg0 m ρ c),
       (h c _ (mem_uc main_arg1 (by decide))).trans (W9_main_arg1 m ρ c)⟩)

end Cert.Proof

end
-- ==== Proof.lean ====
/- The certificate: the frames, and the kernel's result equal to the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_drawable
public import proofs.«01_k».proof.Proof.Maths
public import proofs.«01_k».proof.Proof.Reference
public import proofs.«01_k».proof.Proof.Inputs
public import proofs.«01_k».proof.Proof.Result
public import proofs.«01_k».proof.Proof.Run
public import Idealize.ShloMosaic.Adequacy
public import Idealize.ShloMosaic.Init

@[expose] public section

noncomputable section

namespace Cert.Proof

open Idealize.ShloMosaic Idealize.SL.Sem

/-- The reference terminates, leaves its arguments as launched and has no semaphore that could end above zero. -/
theorem reference_frame (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0)
          = m ((c.tc : Thread ReferenceIdeal.nD ReferenceIdeal.τ).loc ReferenceIdeal.main_arg0)
        ∧ r.2.mem ((c.tc : Thread ReferenceIdeal.nD ReferenceIdeal.τ).loc ReferenceIdeal.main_arg1)
          = m ((c.tc : Thread ReferenceIdeal.nD ReferenceIdeal.τ).loc ReferenceIdeal.main_arg1)) ∧ r.2.sem = fun _ => 0) :=
  (θ_run ReferenceIdeal.defs _ _).mono (fun r h => ⟨fun c => (h c).2, sem_eq_zero_of_no_sems (by decide) r.2⟩)
    (ReferenceIdeal.Value.run m ρ)

/-- On arguments the precondition allows, the array the kernel leaves is the reference's result. -/
theorem result_eq_reference (l : Vec Ideal KernelIdeal.S64x4096 .f32) (u : Vec Ideal KernelIdeal.S64x10x4096 .f32)
    (h : Pre_drawable.fn (F := Ideal) l u = fun _ => 1#1) :
    result l u = ReferenceIdeal.Read.val_main_v20 (F := Ideal) l u := by
  funext i
  idx_vars i
  obtain ⟨k, j, hl, hu⟩ := Inputs.live l u h i0
  rw [Reference.result_apply]
  exact kernelRow_eq_referenceRow _ _ (fun _ => Inputs.logit_ne_top l u h _) (fun _ _ => Inputs.draw_lt_one l u h _) k j hl hu i1

/-- Everything the certificate claims. -/
theorem claim : Cert.Claim :=
  ⟨Kernel.Gen.facts, KernelIdeal.Gen.facts, ReferenceIdeal.Gen.facts, Pre_drawable.Gen.facts,
    fun m ρ _ => Kernel.Gen.frame m ρ, fun m ρ _ => KernelIdeal.Gen.frame m ρ, fun m ρ _ => KernelIdeal.Gen.frame m ρ,
    fun m ρ _ => reference_frame m ρ, fun m ρ _ => reference_frame m ρ, trivial, fun m ρ m' ρ' hpre hagree => by
  refine ⟨fun c => result (logits m c) (draws m c), (θ_run KernelIdeal.defs _ _).mono (fun r h c => ?_) (run m ρ),
    (θ_run ReferenceIdeal.defs _ _).mono (fun r h c => ?_) (ReferenceIdeal.Value.run m' ρ')⟩
  · exact ⟨(h c).1.trans (result_eq m ρ c), (h c).2⟩
  · refine ⟨(h c).1.trans ?_, (h c).2⟩
    rw [(hagree c).1, (hagree c).2]
    exact (ReferenceIdeal.Read.val_main_v20_eq _ _).symm.trans (result_eq_reference _ _ (hpre c)).symm⟩

end Cert.Proof

end
